-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v6)) (v1 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_v8) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_v6) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x4096x2816 : Shape := ⟨3, ![2, 4096, 2816]⟩
abbrev S2x4096 : Shape := ⟨2, ![2, 4096]⟩
abbrev S2816x32 : Shape := ⟨2, ![2816, 32]⟩
abbrev S32 : Shape := ⟨1, ![32]⟩
abbrev S2x1x4096 : Shape := ⟨3, ![2, 1, 4096]⟩
abbrev S32x2816 : Shape := ⟨2, ![32, 2816]⟩
abbrev S32x1 : Shape := ⟨2, ![32, 1]⟩
abbrev S4x8192 : Shape := ⟨2, ![4, 8192]⟩
abbrev S1x1024x2816 : Shape := ⟨3, ![1, 1024, 2816]⟩
abbrev S1x1x1024 : Shape := ⟨3, ![1, 1, 1024]⟩
abbrev S4x1024 : Shape := ⟨2, ![4, 1024]⟩
abbrev S1024x2816 : Shape := ⟨2, ![1024, 2816]⟩
abbrev S32x1024 : Shape := ⟨2, ![32, 1024]⟩
abbrev S1x1024 : Shape := ⟨2, ![1, 1024]⟩
abbrev S1024 : Shape := ⟨1, ![1024]⟩
abbrev S8192x4 : Shape := ⟨2, ![8192, 4]⟩
abbrev S2x4096x4 : Shape := ⟨3, ![2, 4096, 4]⟩

abbrev nBuf : Space → Nat
  | .hbm => 15
  | .vmem => 11
  | .smem => 0
  | _ => 0

abbrev bufTy : (tb : Table) → Fin (tcTables nBuf tb) → BufTy
  | .hbm, ⟨0, _⟩ => ⟨S2x4096x2816, .fp8e4m3⟩
  | .hbm, ⟨1, _⟩ => ⟨S2x4096, .f32⟩
  | .hbm, ⟨2, _⟩ => ⟨S2816x32, .fp8e4m3⟩
  | .hbm, ⟨3, _⟩ => ⟨S32, .f32⟩
  | .hbm, ⟨4, _⟩ => ⟨S32, .f32⟩
  | .hbm, ⟨5, _⟩ => ⟨S2x1x4096, .f32⟩
  | .hbm, ⟨6, _⟩ => ⟨S32x2816, .fp8e4m3⟩
  | .hbm, ⟨7, _⟩ => ⟨S32x1, .f32⟩
  | .hbm, ⟨8, _⟩ => ⟨S32x1, .f32⟩
  | .hbm, ⟨9, _⟩ => ⟨S4x8192, .i32⟩
  | .hbm, ⟨10, _⟩ => ⟨S4x8192, .f32⟩
  | .hbm, ⟨11, _⟩ => ⟨S8192x4, .i32⟩
  | .hbm, ⟨12, _⟩ => ⟨S2x4096x4, .i32⟩
  | .hbm, ⟨13, _⟩ => ⟨S8192x4, .f32⟩
  | .hbm, ⟨14, _⟩ => ⟨S2x4096x4, .f32⟩
  | .local _ .vmem, ⟨0, _⟩ => ⟨S1x1024x2816, .fp8e4m3⟩
  | .local _ .vmem, ⟨1, _⟩ => ⟨S1x1024x2816, .fp8e4m3⟩
  | .local _ .vmem, ⟨2, _⟩ => ⟨S1x1x1024, .f32⟩
  | .local _ .vmem, ⟨3, _⟩ => ⟨S1x1x1024, .f32⟩
  | .local _ .vmem, ⟨4, _⟩ => ⟨S32x2816, .fp8e4m3⟩
  | .local _ .vmem, ⟨5, _⟩ => ⟨S32x1, .f32⟩
  | .local _ .vmem, ⟨6, _⟩ => ⟨S32x1, .f32⟩
  | .local _ .vmem, ⟨7, _⟩ => ⟨S4x1024, .i32⟩
  | .local _ .vmem, ⟨8, _⟩ => ⟨S4x1024, .i32⟩
  | .local _ .vmem, ⟨9, _⟩ => ⟨S4x1024, .f32⟩
  | .local _ .vmem, ⟨10, _⟩ => ⟨S4x1024, .f32⟩
  | _, _ => ⟨S2x4096x2816, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨2, ![2, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![c0_i32.toNat, v1.toNat]

def cc0_transform_6 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![c0_i32.toNat, v1.toNat]

abbrev stage0_0 : Fin 2 → Memref sig .tc .vmem S1x1024x2816 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S32x2816 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S32x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S32x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S4x1024 .i32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S4x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== ReferenceIdeal.lean ====
abbrev S2x4096x2816 : Shape := ⟨3, ![2, 4096, 2816]⟩
abbrev S2x4096 : Shape := ⟨2, ![2, 4096]⟩
abbrev S2816x32 : Shape := ⟨2, ![2816, 32]⟩
abbrev S32 : Shape := ⟨1, ![32]⟩
abbrev S8192x2816 : Shape := ⟨2, ![8192, 2816]⟩
abbrev S8192 : Shape := ⟨1, ![8192]⟩
abbrev S4x8192 : Shape := ⟨2, ![4, 8192]⟩
abbrev S32x8192 : Shape := ⟨2, ![32, 8192]⟩
abbrev S1x8192 : Shape := ⟨2, ![1, 8192]⟩
abbrev S32x1 : Shape := ⟨2, ![32, 1]⟩
abbrev S8x8192 : Shape := ⟨2, ![8, 8192]⟩
abbrev S8x1x8192 : Shape := ⟨3, ![8, 1, 8192]⟩
abbrev S8x4x8192 : Shape := ⟨3, ![8, 4, 8192]⟩
abbrev S8192x4 : Shape := ⟨2, ![8192, 4]⟩
abbrev S2x4096x4 : Shape := ⟨3, ![2, 4096, 4]⟩

abbrev nBuf : Space → Nat
  | .hbm => 13
  | .vmem => 7
  | .smem => 0
  | _ => 0

abbrev bufTy : (tb : Table) → Fin (tcTables nBuf tb) → BufTy
  | .hbm, ⟨0, _⟩ => ⟨S2x4096x2816, .fp8e4m3⟩
  | .hbm, ⟨1, _⟩ => ⟨S2x4096, .f32⟩
  | .hbm, ⟨2, _⟩ => ⟨S2816x32, .fp8e4m3⟩
  | .hbm, ⟨3, _⟩ => ⟨S32, .f32⟩
  | .hbm, ⟨4, _⟩ => ⟨S32, .f32⟩
  | .hbm, ⟨5, _⟩ => ⟨S8192x2816, .fp8e4m3⟩
  | .hbm, ⟨6, _⟩ => ⟨S8192, .f32⟩
  | .hbm, ⟨7, _⟩ => ⟨S4x8192, .i32⟩
  | .hbm, ⟨8, _⟩ => ⟨S4x8192, .f32⟩
  | .hbm, ⟨9, _⟩ => ⟨S8192x4, .i32⟩
  | .hbm, ⟨10, _⟩ => ⟨S2x4096x4, .i32⟩
  | .hbm, ⟨11, _⟩ => ⟨S8192x4, .f32⟩
  | .hbm, ⟨12, _⟩ => ⟨S2x4096x4, .f32⟩
  | .local _ .vmem, ⟨0, _⟩ => ⟨S8192x2816, .fp8e4m3⟩
  | .local _ .vmem, ⟨1, _⟩ => ⟨S8192, .f32⟩
  | .local _ .vmem, ⟨2, _⟩ => ⟨S2816x32, .fp8e4m3⟩
  | .local _ .vmem, ⟨3, _⟩ => ⟨S32, .f32⟩
  | .local _ .vmem, ⟨4, _⟩ => ⟨S32, .f32⟩
  | .local _ .vmem, ⟨5, _⟩ => ⟨S4x8192, .i32⟩
  | .local _ .vmem, ⟨6, _⟩ => ⟨S4x8192, .f32⟩
  | _, _ => ⟨S2x4096x2816, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S8192x2816 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8192 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2816x32 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S4x8192 .i32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S4x8192 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Proof.Column.lean ====
/- The router of ONE token, on its column of 32 expert scores: the mathematics both programs compute, with no vector
   operation in it. A column is a function `Fin 32 → EReal`; the experts come in eight groups of four. -/
module

public import Idealize.ShloMosaic.Lib.Pointwise

@[expose] public section

set_option maxRecDepth 16384

noncomputable section

namespace Cert.Proof

open Idealize.ShloMosaic

/-- The value that stands for "already taken" or "in a dropped group": the number the bits of −∞ denote. -/
def neg : EReal := Ideal.ofBits .f32 0xFF800000#32

/-- The largest sum of two of four numbers (which is the sum of the two largest). -/
def best (a b c d : EReal) : EReal :=
  max (max (max (max (max (a + b) (a + c)) (a + d)) (b + c)) (b + d)) (c + d)

/-- The score of a group of experts: the best sum of two among its four members. -/
def gscore (v : Fin 32 → EReal) (g : Fin 8) : EReal :=
  best (v ⟨4 * g, by omega⟩) (v ⟨4 * g + 1, by omega⟩) (v ⟨4 * g + 2, by omega⟩) (v ⟨4 * g + 3, by omega⟩)

/-- The word 1 when the comparison holds, 0 otherwise. -/
def flag (p : Prop) [Decidable p] : BitVec 32 := BitVec.setWidth 32 (BitVec.ofBool (decide p))

/-- Whether group `h` goes before group `g`: the larger score first, the smaller index first among equals. -/
def beats (s : Fin 8 → EReal) (h g : Fin 8) : BitVec 32 :=
  if h < g then flag (s g ≤ s h) else flag (s g < s h)

/-- The number of groups that go before group `g`. -/
def rank (s : Fin 8 → EReal) (g : Fin 8) : BitVec 32 :=
  [0, 1, 2, 3, 4, 5, 6, 7].foldl (fun a h => if h = g then a else a + beats s h g) 0#32

/-- The same number, the sum started at its first term. -/
def rank' (s : Fin 8 → EReal) (g : Fin 8) : BitVec 32 :=
  if g = 0 then [2, 3, 4, 5, 6, 7].foldl (fun a h => a + beats s h 0) (beats s 1 0)
  else [1, 2, 3, 4, 5, 6, 7].foldl (fun a h => if h = g then a else a + beats s h g) (beats s 0 g)

theorem rank_eq (s : Fin 8 → EReal) (g : Fin 8) : rank s g = rank' s g := by
  fin_cases g <;> simp [rank, rank']

/-- The group of an expert. -/
def group (e : Fin 32) : Fin 8 := ⟨e / 4, by omega⟩

/-- The column with every expert outside the first four groups struck out. -/
def masked (v : Fin 32 → EReal) (e : Fin 32) : EReal :=
  if (rank (gscore v) (group e)).slt 4#32 then v e else neg

/-- The largest entry of a column. -/
def top (v : Fin 32 → EReal) : EReal := Finset.univ.fold max neg v

/-- The first expert whose entry is the largest. -/
def pick (v : Fin 32 → EReal) : BitVec 32 :=
  Finset.univ.fold IntOp.minsi 2147483647#32 (fun e : Fin 32 => if v e = top v then BitVec.ofNat 32 e else 32#32)

/-- The column with the picked expert struck out. -/
def strike (v : Fin 32 → EReal) (e : Fin 32) : EReal :=
  if BitVec.ofNat 32 e = pick v then neg else v e

/-- The score of the picked expert. -/
def weight (s v : Fin 32 → EReal) : EReal :=
  ∑ e : Fin 32, if BitVec.ofNat 32 e = pick v then s e else 0

/-- The column each of the four rounds works on. -/
def round (v : Fin 32 → EReal) : Fin 4 → Fin 32 → EReal
  | 0 => masked v
  | 1 => strike (masked v)
  | 2 => strike (strike (masked v))
  | 3 => strike (strike (strike (masked v)))

/-- The first result: the expert round `k` picks. -/
def ids (v : Fin 32 → EReal) (k : Fin 4) : BitVec 32 := pick (round v k)

/-- The sum of the four picked scores. -/
def total (s v : Fin 32 → EReal) : EReal :=
  weight s (round v 0) + weight s (round v 1) + weight s (round v 2) + weight s (round v 3)

/-- The second result: the score round `k` picks, divided by the sum of the four and scaled. -/
def wts (s v : Fin 32 → EReal) (k : Fin 4) : EReal :=
  Ideal.div (weight s (round v k)) (total s v) * Ideal.ofBits .f32 0x40200000#32

/-- The score of one expert for one token: the logistic of the scaled product of the token's codes with the expert's. -/
def score (x w : Fin 2816 → EReal) (xs ws : EReal) : EReal :=
  Ideal.logistic ((∑ d, w d * x d) * xs * ws)

/-- A choice by an equality of words is a conditional. -/
theorem select_eq {α : Type} (a b : BitVec 32) (x y : α) :
    Scalar.select (IntOp.cmpi .eq a b) x y = if a = b then x else y := by
  by_cases h : a = b
  · simp [Scalar.select, IntOp.cmpi, h]
  · simp [Scalar.select, IntOp.cmpi, beq_false_of_ne h, h]

/-- A choice by a signed comparison of words is a conditional. -/
theorem select_slt {α : Type} (a b : BitVec 32) (x y : α) :
    Scalar.select (IntOp.cmpi .slt a b) x y = if a.slt b then x else y := by
  cases h : a.slt b <;> simp [Scalar.select, IntOp.cmpi, h]

/-- One step of striking out a group by its rank: rows `lo ≤ e < hi` become `neg` when the rank is at least 4. -/
def dropStep (lo hi r : BitVec 32) (e : Fin 32) (y : EReal) : EReal :=
  Scalar.select (IntOp.andi (IntOp.andi (IntOp.cmpi .sge (BitVec.ofNat 32 e) lo)
    (IntOp.cmpi .slt (BitVec.ofNat 32 e) hi)) (IntOp.cmpi .sge r 4#32)) neg y

/-- The two comparisons of an expert with the ends of a group are both true exactly when the group is its own. -/
theorem in_group : ∀ (g : Fin 8) (e : Fin 32),
    IntOp.andi (IntOp.cmpi .sge (BitVec.ofNat 32 e) (BitVec.ofNat 32 (4 * g)))
      (IntOp.cmpi .slt (BitVec.ofNat 32 e) (BitVec.ofNat 32 (4 * g + 4))) = if group e = g then 1#1 else 0#1 := by
  decide +kernel

/-- A step changes the experts of its own group alone, by the rank. -/
theorem dropStep_eq (g : Fin 8) (r : BitVec 32) (e : Fin 32) (y : EReal) :
    dropStep (BitVec.ofNat 32 (4 * g)) (BitVec.ofNat 32 (4 * g + 4)) r e y
      = if group e = g then (if r.slt 4#32 then y else neg) else y := by
  have hs : IntOp.cmpi .sge r 4#32 = BitVec.ofBool (!r.slt 4#32) := by
    simp only [IntOp.cmpi, BitVec.sle_eq_not_slt]
  unfold dropStep
  rw [in_group, hs]
  by_cases h : group e = g <;> cases r.slt 4#32 <;> simp [h, IntOp.andi, Scalar.select]

/-- Striking out the groups one after the other strikes out an expert exactly when its own group's rank is at
    least 4: `r g` is the rank of group `g`. -/
theorem dropStep_all (r : Fin 8 → BitVec 32) (e : Fin 32) (y : EReal) :
    dropStep 28#32 32#32 (r 7) e (dropStep 24#32 28#32 (r 6) e (dropStep 20#32 24#32 (r 5) e
      (dropStep 16#32 20#32 (r 4) e (dropStep 12#32 16#32 (r 3) e (dropStep 8#32 12#32 (r 2) e
        (dropStep 4#32 8#32 (r 1) e (dropStep 0#32 4#32 (r 0) e y)))))))
      = if (r (group e)).slt 4#32 then y else neg := by
  rw [show ∀ z, dropStep 28#32 32#32 (r 7) e z = _ from dropStep_eq 7 (r 7) e,
    show ∀ z, dropStep 24#32 28#32 (r 6) e z = _ from dropStep_eq 6 (r 6) e,
    show ∀ z, dropStep 20#32 24#32 (r 5) e z = _ from dropStep_eq 5 (r 5) e,
    show ∀ z, dropStep 16#32 20#32 (r 4) e z = _ from dropStep_eq 4 (r 4) e,
    show ∀ z, dropStep 12#32 16#32 (r 3) e z = _ from dropStep_eq 3 (r 3) e,
    show ∀ z, dropStep 8#32 12#32 (r 2) e z = _ from dropStep_eq 2 (r 2) e,
    show ∀ z, dropStep 4#32 8#32 (r 1) e z = _ from dropStep_eq 1 (r 1) e,
    show ∀ z, dropStep 0#32 4#32 (r 0) e z = _ from dropStep_eq 0 (r 0) e]
  generalize group e = g
  fin_cases g <;> simp

end Cert.Proof
-- ==== Proof.Block.lean ====
/- The kernel's block: what one grid point writes, at an index, is the router of that token's column
   (Proof/Column.lean). Each lemma reads one value of the body at an index. -/
module

public import proofs.«01_k».proof.Defs
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Column

@[expose] public section

set_option maxRecDepth 16384

noncomputable section

namespace Cert.Proof.K

open Idealize.ShloMosaic Cert.KernelIdeal Cert.KernelIdeal.Gen

/-- The column of token `j` in a block of 1024 tokens. -/
abbrev col (v : FVec Ideal S32x1024 .f32) (j : Fin 1024) : Fin 32 → EReal := fun e => v (ix2 e j)

/-- The row of expert numbers. -/
abbrev rows : IVec S32x1024 32 := iota .tc S32x1024 32 [0] iota_S32x1024_d0_w32

variable (v s : FVec Ideal S32x1024 .f32) (j : Fin 1024) (e : Fin 32)

/-- A later round's picked expert. -/
theorem pick_row : k0_pay41 (F := Ideal) rows v (ix2 0 j) = pick (col v j) := by
  pointwise [k0_pay41]
  rfl

/-- A later round's picked score. -/
theorem weight_row : k0_pay43 (F := Ideal) s rows v (ix2 0 j) = weight (col s j) (col v j) := by
  have h := pick_row v j
  pointwise [k0_pay43, k0_pay42]
  simp only [h, select_eq]
  rfl

/-- A later round's column after the picked expert is struck out. -/
theorem strike_col : k0_pay44 (F := Ideal) rows v (ix2 e j) = strike (col v j) e := by
  have h := pick_row v j
  pointwise [k0_pay44, k0_pay42]
  simp only [h, select_eq]
  rfl

/-! The eight group scores. -/

theorem gscore0 (a b c d f) : k0_pay5 (F := Ideal) a b c d f (ix2 0 j) = gscore (col (k0_pay4 a b c d f) j) 0 := by
  pointwise [k0_pay5]
  rfl

theorem gscore1 (a b c d f) : k0_pay11 (F := Ideal) (k0_pay7 a b c d f) (k0_pay8 a b c d f) (k0_pay9 a b c d f)
    (k0_pay10 a b c d f) (ix2 0 j) = gscore (col (k0_pay4 a b c d f) j) 1 := by
  pointwise [k0_pay11, k0_pay10, k0_pay9, k0_pay8, k0_pay7, k0_pay6]
  rfl

theorem gscore2 : k0_pay12 (F := Ideal) v (ix2 0 j) = gscore (col v j) 2 := by
  pointwise [k0_pay12]
  rfl

theorem gscore3 : k0_pay13 (F := Ideal) v (ix2 0 j) = gscore (col v j) 3 := by
  pointwise [k0_pay13]
  rfl

theorem gscore4 : k0_pay14 (F := Ideal) v (ix2 0 j) = gscore (col v j) 4 := by
  pointwise [k0_pay14]
  rfl

theorem gscore5 : k0_pay20 (F := Ideal) (k0_pay16 v) (k0_pay17 v) (k0_pay18 v) (k0_pay19 v) (ix2 0 j)
    = gscore (col v j) 5 := by
  pointwise [k0_pay20, k0_pay19, k0_pay18, k0_pay17, k0_pay16, k0_pay15]
  rfl

theorem gscore6 : k0_pay21 (F := Ideal) v (ix2 0 j) = gscore (col v j) 6 := by
  pointwise [k0_pay21]
  rfl

theorem gscore7 : k0_pay22 (F := Ideal) v (ix2 0 j) = gscore (col v j) 7 := by
  pointwise [k0_pay22]
  rfl

/-! The steps that strike out the groups, over the eight rows of group scores. -/

section Steps
variable (t : Fin 8 → FVec Ideal S1x1024 .f32) (y : FVec Ideal S32x1024 .f32)

/-- The eight group scores of a token. -/
abbrev gs : Fin 8 → EReal := fun g => t g (ix2 0 j)

theorem rank0 (a b c d) (h5 : t 5 = k0_pay20 a b c d) (h6 : t 6 = k0_pay21 v) (h7 : t 7 = k0_pay22 v) :
    k0_pay23 (F := Ideal) v (t 0) (t 1) (t 2) (t 3) (t 4) a b c d (ix2 0 j) = rank (gs j t) 0 := by
  have e5 := congrFun h5 (ix2 0 j)
  have e6 := congrFun h6 (ix2 0 j)
  have e7 := congrFun h7 (ix2 0 j)
  pointwise [k0_pay23]
  simp only [← e5, ← e6, ← e7]
  rfl

theorem step1 (r : IVec S1x1024 32) : k0_pay25 (F := Ideal) v (t 0) (t 1) (t 2) (t 3) (t 4) (t 5) (t 6) (t 7) rows r
      k0_pay24 (ix2 e j)
    = dropStep 4#32 8#32 (rank (gs j t) 1) e (dropStep 0#32 4#32 (r (ix2 0 j)) e (v (ix2 e j))) := by
  pointwise [k0_pay25, k0_pay24]
  rfl

theorem step2 : k0_pay28 (F := Ideal) (t 2) (t 4) (t 5) (t 6) (t 7) rows y (k0_pay26 (t 0) (t 1) (t 2))
      (k0_pay27 (t 2) (t 3)) (ix2 e j)
    = dropStep 8#32 12#32 (rank (gs j t) 2) e (y (ix2 e j)) := by
  pointwise [k0_pay28, k0_pay27, k0_pay26]
  rfl

theorem step4 : k0_pay32 (F := Ideal) (t 0) (t 1) (t 2) (t 3) (t 4) (t 5) (t 6) (t 7) rows y
      (k0_pay29 (t 0) (t 1) (t 2) (t 3) (t 4) (t 5) (t 6) (t 7)) (k0_pay30 rows) k0_pay31 (ix2 e j)
    = dropStep 16#32 20#32 (rank (gs j t) 4) e (dropStep 12#32 16#32 (rank (gs j t) 3) e (y (ix2 e j))) := by
  pointwise [k0_pay32, k0_pay31, k0_pay30, k0_pay29]
  rfl

theorem step6 : k0_pay35 (F := Ideal) (t 0) (t 1) (t 2) (t 3) (t 4) (t 5) (t 6) (t 7) rows y
      (k0_pay33 (t 0) (t 1) (t 2) (t 3) (t 5)) (k0_pay34 (t 4) (t 5)) (ix2 e j)
    = dropStep 24#32 28#32 (rank (gs j t) 6) e (dropStep 20#32 24#32 (rank (gs j t) 5) e (y (ix2 e j))) := by
  pointwise [k0_pay35, k0_pay34, k0_pay33]
  rfl

theorem step7 : k0_pay36 (F := Ideal) (t 0) (t 1) (t 2) (t 3) (t 4) (t 5) (t 6) (t 7) rows y (ix2 e j)
    = dropStep 28#32 32#32 (rank (gs j t) 7) e (y (ix2 e j)) := by
  pointwise [k0_pay36]
  rfl

/-- The eight steps together: an expert is struck out exactly when its own group's rank is at least 4. -/
theorem steps (a b c d) (h5 : t 5 = k0_pay20 a b c d) (h6 : t 6 = k0_pay21 v) (h7 : t 7 = k0_pay22 v) :
    k0_pay36 (F := Ideal) (t 0) (t 1) (t 2) (t 3) (t 4) (t 5) (t 6) (t 7) rows
      (k0_pay35 (t 0) (t 1) (t 2) (t 3) (t 4) (t 5) (t 6) (t 7) rows
        (k0_pay32 (t 0) (t 1) (t 2) (t 3) (t 4) (t 5) (t 6) (t 7) rows
          (k0_pay28 (t 2) (t 4) (t 5) (t 6) (t 7) rows
            (k0_pay25 v (t 0) (t 1) (t 2) (t 3) (t 4) (t 5) (t 6) (t 7) rows
              (k0_pay23 v (t 0) (t 1) (t 2) (t 3) (t 4) a b c d) k0_pay24)
            (k0_pay26 (t 0) (t 1) (t 2)) (k0_pay27 (t 2) (t 3)))
          (k0_pay29 (t 0) (t 1) (t 2) (t 3) (t 4) (t 5) (t 6) (t 7)) (k0_pay30 rows) k0_pay31)
        (k0_pay33 (t 0) (t 1) (t 2) (t 3) (t 5)) (k0_pay34 (t 4) (t 5))) (ix2 e j)
      = if (rank (gs j t) (group e)).slt 4#32 then v (ix2 e j) else neg := by
  rw [step7, step6, step4, step2, step1, rank0 v j t a b c d h5 h6 h7]
  exact dropStep_all _ e _

end Steps

/-! The whole block, from the five input blocks. -/

section Whole
variable (x0 : Vec Ideal S1x1024x2816 .fp8e4m3) (x1 : Vec Ideal S1x1x1024 .f32) (x2 : Vec Ideal S32x2816 .fp8e4m3)
  (x3 : Vec Ideal S32x1 .f32) (x4 : Vec Ideal S32x1 .f32)

/-- The score of an expert for token `j` of the block. -/
def sc (j : Fin 1024) (e : Fin 32) : EReal :=
  score (fun d => x0 (ix3 0 j d)) (fun d => x2 (ix2 e d)) (x1 (ix3 0 0 j)) (x3 (ix2 e 0))

/-- The score the router chooses by: with the expert's bias added. -/
def ch (j : Fin 1024) (e : Fin 32) : EReal := sc x0 x1 x2 x3 j e + x4 (ix2 e 0)

theorem off2 : (![0, 0] : Fin 2 → Nat) = fun _ => 0 := by decide
theorem off3 : (![0, 0, 0] : Fin 3 → Nat) = fun _ => 0 := by decide

theorem ld_w : View.ld x2 r0_0 = x2 := View.ld_unit_zero off2 _ x2
theorem ld_x : View.ld x0 r0_1 = x0 := View.ld_unit_zero off3 _ x0
theorem ld_xs : View.ld x1 r0_2 = x1 := View.ld_unit_zero off3 _ x1
theorem ld_ws : View.ld x3 r0_3 = x3 := View.ld_unit_zero off2 _ x3

theorem scores : col (k0_pay50 (F := Ideal) x0 x1 x2 x3 x4) j = sc x0 x1 x2 x3 j := by
  funext e
  show k0_pay50 (F := Ideal) x0 x1 x2 x3 x4 (ix2 e j) = _
  rw [k0_pay50, ld_w, ld_x, ld_xs, ld_ws]
  pointwise [k0_pay3]
  rfl

theorem choice : col (k0_pay51 (F := Ideal) x0 x1 x2 x3 x4) j = ch x0 x1 x2 x3 x4 j := by
  funext e
  show k0_pay51 (F := Ideal) x0 x1 x2 x3 x4 (ix2 e j) = _
  rw [k0_pay51, ld_w, ld_x, ld_xs, ld_ws, ld_ws]
  pointwise [k0_pay4, k0_pay3]
  rfl

/-- The first round's column, before its pick. -/
def first : FVec Ideal S32x1024 .f32 :=
  k0_pay36 (k0_pay52 x0 x1 x2 x3 x4) (k0_pay53 x0 x1 x2 x3 x4) (k0_pay54 x0 x1 x2 x3 x4) (k0_pay55 x0 x1 x2 x3 x4) (k0_pay56 x0 x1 x2 x3 x4) (k0_pay62 x0 x1 x2 x3 x4) (k0_pay63 x0 x1 x2 x3 x4) (k0_pay64 x0 x1 x2 x3 x4) (k0_pay61 x0 x1 x2 x3 x4) (k0_pay65 x0 x1 x2 x3 x4)

theorem first_col : col (first x0 x1 x2 x3 x4) j = masked (ch x0 x1 x2 x3 x4 j) := by
  funext e
  rw [← choice]
  let t : Fin 8 → FVec Ideal S1x1024 .f32 := ![k0_pay52 x0 x1 x2 x3 x4, k0_pay53 x0 x1 x2 x3 x4,
    k0_pay54 x0 x1 x2 x3 x4, k0_pay55 x0 x1 x2 x3 x4, k0_pay56 x0 x1 x2 x3 x4, k0_pay62 x0 x1 x2 x3 x4,
    k0_pay63 x0 x1 x2 x3 x4, k0_pay64 x0 x1 x2 x3 x4]
  have hg : gs j t = gscore (col (k0_pay51 (F := Ideal) x0 x1 x2 x3 x4) j) := by
    funext g
    fin_cases g
    · exact gscore0 j _ _ _ _ _
    · exact gscore1 j _ _ _ _ _
    · exact gscore2 _ j
    · exact gscore3 _ j
    · exact gscore4 _ j
    · exact gscore5 _ j
    · exact gscore6 _ j
    · exact gscore7 _ j
  have h := steps (k0_pay51 x0 x1 x2 x3 x4) j e t (k0_pay57 x0 x1 x2 x3 x4) (k0_pay58 x0 x1 x2 x3 x4)
    (k0_pay59 x0 x1 x2 x3 x4) (k0_pay60 x0 x1 x2 x3 x4) rfl rfl rfl
  rw [hg] at h
  exact h

theorem strike_col' : col (k0_pay44 (F := Ideal) rows v) j = strike (col v j) := funext fun e => strike_col v j e

/-- The ids the block writes. -/
theorem out_ids (k : Fin 4) : out0_5 (F := Ideal) x0 x1 x2 x3 x4 (ix2 k j) = ids (ch x0 x1 x2 x3 x4 j) k := by
  have hcan : out0_5 (F := Ideal) x0 x1 x2 x3 x4 =
      k0_pay1 (k0_pay41 (F := Ideal) rows (first x0 x1 x2 x3 x4))
        (k0_pay41 (F := Ideal) rows (k0_pay44 rows (first x0 x1 x2 x3 x4)))
        (k0_pay41 (F := Ideal) rows (k0_pay44 rows (k0_pay44 rows (first x0 x1 x2 x3 x4))))
        (k0_pay41 (F := Ideal) rows (k0_pay44 rows (k0_pay44 rows (k0_pay44 rows (first x0 x1 x2 x3 x4))))) := by
    exact View.canon_unit_zero off2 _ _
  rw [hcan]
  have h0 := pick_row (first x0 x1 x2 x3 x4) j
  have h1 := pick_row (k0_pay44 rows (first x0 x1 x2 x3 x4)) j
  have h2 := pick_row (k0_pay44 rows (k0_pay44 rows (first x0 x1 x2 x3 x4))) j
  have h3 := pick_row (k0_pay44 rows (k0_pay44 rows (k0_pay44 rows (first x0 x1 x2 x3 x4)))) j
  simp only [strike_col', first_col] at h0 h1 h2 h3
  fin_cases k
  · pointwise [k0_pay1]
    exact h0
  · pointwise [k0_pay1]
    exact h1
  · pointwise [k0_pay1]
    exact h2
  · pointwise [k0_pay1]
    exact h3

/-- The sum over the experts of a block, as a row. -/
theorem sum_row : shapeCast S1x1024 (multiReduction (F := Ideal) .add [0] S1024 v 0x00000000#32 reduces_S32x1024_S1024
    (.inl rfl) rfl) shapeCasts_S1024_S1x1024 (ix2 0 j) = ∑ e : Fin 32, v (ix2 e j) := by
  pointwise

/-- The last round's picked score, from the masked block the body keeps for it. -/
theorem weight_last : ∑ e : Fin 32, k0_pay49 (F := Ideal) s rows v (ix2 e j)
    = k0_pay43 (F := Ideal) s rows (k0_pay44 rows (k0_pay44 rows v)) (ix2 0 j) :=
  (sum_row (k0_pay49 (F := Ideal) s rows v) j).symm

/-- The weights the block writes. -/
theorem out_wts (k : Fin 4) : out0_6 (F := Ideal) x0 x1 x2 x3 x4 (ix2 k j)
    = wts (sc x0 x1 x2 x3 j) (ch x0 x1 x2 x3 x4 j) k := by
  let s := k0_pay50 (F := Ideal) x0 x1 x2 x3 x4
  have hcan : out0_6 (F := Ideal) x0 x1 x2 x3 x4 =
      k0_pay2 (k0_pay43 (F := Ideal) s rows (first x0 x1 x2 x3 x4))
        (k0_pay43 (F := Ideal) s rows (k0_pay44 rows (first x0 x1 x2 x3 x4)))
        (k0_pay43 (F := Ideal) s rows (k0_pay44 rows (k0_pay44 rows (first x0 x1 x2 x3 x4))))
        (k0_pay49 (F := Ideal) s rows (k0_pay44 rows (first x0 x1 x2 x3 x4))) := by
    exact View.canon_unit_zero off2 _ _
  rw [hcan]
  have h0 := weight_row (first x0 x1 x2 x3 x4) s j
  have h1 := weight_row (k0_pay44 rows (first x0 x1 x2 x3 x4)) s j
  have h2 := weight_row (k0_pay44 rows (k0_pay44 rows (first x0 x1 x2 x3 x4))) s j
  have h3 := weight_row (k0_pay44 rows (k0_pay44 rows (k0_pay44 rows (first x0 x1 x2 x3 x4)))) s j
  simp only [strike_col', first_col] at h0 h1 h2 h3
  rw [show col s j = _ from scores j x0 x1 x2 x3 x4] at h0 h1 h2 h3
  rw [← weight_last] at h3
  fin_cases k <;> pointwise [k0_pay2] <;> simp only [h0, h1, h2, h3] <;> rfl

end Whole

end Cert.Proof.K
-- ==== Proof.Spec.lean ====
module

public import proofs.«01_k».proof.Proof.Column
public import Idealize.ShloMosaic.Lib.Pointwise

@[expose] public section

noncomputable section

/-! The router's two result tables as functions of the five arguments, before either program's last transpose and reshape: a row per choice, a column per token. -/

namespace Cert.Proof

open Idealize.ShloMosaic

variable (x : Vec Ideal ⟨3, ![2, 4096, 2816]⟩ .fp8e4m3) (xs : Vec Ideal ⟨2, ![2, 4096]⟩ .f32)
  (w : Vec Ideal ⟨2, ![2816, 32]⟩ .fp8e4m3) (ws b : Vec Ideal ⟨1, ![32]⟩ .f32)

/-- The batch of token `n` of the flattened batch-major order. -/
def batch (n : Fin 8192) : Fin 2 := ⟨(n : Nat) / 4096, by omega⟩

/-- The position of token `n` in its batch. -/
def pos (n : Fin 8192) : Fin 4096 := ⟨(n : Nat) % 4096, by omega⟩

/-- Token `n`'s score for expert `e`. -/
def tokScore (n : Fin 8192) (e : Fin 32) : EReal :=
  score (fun d => x (ix3 (batch n) (pos n) d)) (fun d => w (ix2 d e)) (xs (ix2 (batch n) (pos n))) (ws (ix1 e))

/-- Token `n`'s biased score for expert `e`, by which the experts are chosen. -/
def tokChoice (n : Fin 8192) (e : Fin 32) : EReal := tokScore x xs w ws n e + b (ix1 e)

/-- The chosen experts: entry `(k, n)` is token `n`'s `k`-th. -/
def idTable : Vec Ideal ⟨2, ![4, 8192]⟩ .i32 := fun i => ids (tokChoice x xs w ws b (i 1)) (i 0)

/-- The weights of the chosen experts: entry `(k, n)` is token `n`'s `k`-th. -/
def weightTable : Vec Ideal ⟨2, ![4, 8192]⟩ .f32 := fun i => wts (tokScore x xs w ws (i 1)) (tokChoice x xs w ws b (i 1)) (i 0)

end Cert.Proof
-- ==== Proof.KernelRun.lean ====
/- The kernel's run: its two results are the router's tables (Proof/Spec.lean), transposed and reshaped. -/
module

public import proofs.«01_k».proof.Proof.Block
public import proofs.«01_k».proof.Proof.Spec
public import Idealize.ShloMosaic.Lib.Pipeline.ValueKit
public import Idealize.ShloMosaic.Lib.Quiescent
public import Idealize.ShloMosaic.Lib.StableHlo.ReadAt

@[expose] public section

set_option maxRecDepth 16384

noncomputable section

namespace Cert.Proof.K

open Idealize.ShloMosaic Idealize.ShloMosaic.TcCoe Idealize.SL.Sem Cert.KernelIdeal Cert.KernelIdeal.Gen
open Idealize.ShloMosaic.Pipeline (Dat)

variable (m : (ℓ : Loc nD τ sig) → Buf (Elt Ideal) ℓ) (ρ : Dev nD → PrngReg) (c : Dev nD)

/-- The body's second operand is the tokens' scales, a batch per row. -/
theorem V_v0 (b : Fin 2) (r : Fin 4096) :
    V m c main_v0 (ix3 b 0 r) = m ((c : Thread nD τ).loc main_arg1) (ix2 b r) := by
  dsimp only [V, V0, List.flatten_cons, List.flatten_nil, List.append_nil]
  after_reads_at

/-- The third is the router's codes, transposed. -/
theorem V_v1 (e : Fin 32) (d : Fin 2816) :
    V m c main_v1 (ix2 e d) = m ((c : Thread nD τ).loc main_arg2) (ix2 d e) := by
  dsimp only [V, V0, List.flatten_cons, List.flatten_nil, List.append_nil]
  after_reads_at

/-- The fourth is the router's scales, as a column. -/
theorem V_v2 (e : Fin 32) : V m c main_v2 (ix2 e 0) = m ((c : Thread nD τ).loc main_arg3) (ix1 e) := by
  dsimp only [V, V0, List.flatten_cons, List.flatten_nil, List.append_nil]
  after_reads_at

/-- The fifth is the biases, as a column. -/
theorem V_v3 (e : Fin 32) : V m c main_v3 (ix2 e 0) = m ((c : Thread nD τ).loc main_arg4) (ix1 e) := by
  dsimp only [V, V0, List.flatten_cons, List.flatten_nil, List.append_nil]
  after_reads_at

/-- The codes' block at point `t` is the `t % 4`-th of batch `t / 4`. -/
theorem idx_0 : ∀ t : Fin cfg0.N, win0_0.index t = ![(t : Nat) / 4, (t : Nat) % 4, 0] :=
  (by decide +kernel : ∀ t : Fin grid0.N, _)

/-- So is the scales'. -/
theorem idx_1 : ∀ t : Fin cfg0.N, win0_1.index t = ![(t : Nat) / 4, 0, (t : Nat) % 4] :=
  (by decide +kernel : ∀ t : Fin grid0.N, _)

/-- The router's codes are one block. -/
theorem idx_2 : ∀ t : Fin cfg0.N, win0_2.index t = ![0, 0] :=
  (by decide +kernel : ∀ t : Fin grid0.N, _)

/-- So are its scales. -/
theorem idx_3 : ∀ t : Fin cfg0.N, win0_3.index t = ![0, 0] :=
  (by decide +kernel : ∀ t : Fin grid0.N, _)

/-- So are the biases. -/
theorem idx_4 : ∀ t : Fin cfg0.N, win0_4.index t = ![0, 0] :=
  (by decide +kernel : ∀ t : Fin grid0.N, _)

/-- The first result's block at point `t` is the `t`-th. -/
theorem idx_5 : ∀ t : Fin cfg0.N, win0_5.index t = ![0, (t : Nat)] :=
  (by decide +kernel : ∀ t : Fin grid0.N, _)

/-- So is the second's. -/
theorem idx_6 : ∀ t : Fin cfg0.N, win0_6.index t = ![0, (t : Nat)] :=
  (by decide +kernel : ∀ t : Fin grid0.N, _)

/-- Lane `j` of point `t` is token `1024 t + j`. -/
def tok (t : Fin cfg0.N) (j : Fin 1024) : Fin 8192 :=
  ⟨1024 * (t : Nat) + (j : Nat), by have h : (t : Nat) < 8 := N_0 ▸ t.isLt; omega⟩

/-- Point `t`'s codes, at an index. -/
theorem iblk_0 (t : Fin cfg0.N) (j : Fin 1024) (d : Fin 2816) :
    iblk m c 0 t (ix3 0 j d) = m ((c : Thread nD τ).loc main_arg0) (ix3 (batch (tok t j)) (pos (tok t j)) d) := by
  rw [← V_main_arg0 m c]
  have h : (t : Nat) < 8 := N_0 ▸ t.isLt
  blk_simp [iblk]
  congr 1
  blk_ext [idx_0, batch, pos, tok]

/-- Point `t`'s scales, at an index. -/
theorem iblk_1 (t : Fin cfg0.N) (j : Fin 1024) :
    iblk m c 1 t (ix3 0 0 j) = m ((c : Thread nD τ).loc main_arg1) (ix2 (batch (tok t j)) (pos (tok t j))) := by
  rw [← V_v0 m c]
  have h : (t : Nat) < 8 := N_0 ▸ t.isLt
  blk_simp [iblk]
  congr 1
  blk_ext [idx_1, batch, pos, tok]

/-- The router's codes, at an index. -/
theorem iblk_2 (t : Fin cfg0.N) (e : Fin 32) (d : Fin 2816) :
    iblk m c 2 t (ix2 e d) = m ((c : Thread nD τ).loc main_arg2) (ix2 d e) := by
  rw [← V_v1 m c]
  blk_simp [iblk]
  congr 1
  blk_ext [idx_2]

/-- The router's scales, at an index. -/
theorem iblk_3 (t : Fin cfg0.N) (e : Fin 32) :
    iblk m c 3 t (ix2 e 0) = m ((c : Thread nD τ).loc main_arg3) (ix1 e) := by
  rw [← V_v2 m c]
  blk_simp [iblk]
  congr 1
  blk_ext [idx_3]

/-- The biases, at an index. -/
theorem iblk_4 (t : Fin cfg0.N) (e : Fin 32) :
    iblk m c 4 t (ix2 e 0) = m ((c : Thread nD τ).loc main_arg4) (ix1 e) := by
  rw [← V_v3 m c]
  blk_simp [iblk]
  congr 1
  blk_ext [idx_4]

/-- The table of chosen experts, of the arguments as launched. -/
abbrev idOut : Vec Ideal S4x8192 .i32 := idTable (m ((c : Thread nD τ).loc main_arg0)) (m ((c : Thread nD τ).loc main_arg1))
  (m ((c : Thread nD τ).loc main_arg2)) (m ((c : Thread nD τ).loc main_arg3)) (m ((c : Thread nD τ).loc main_arg4))

/-- The table of their weights, of the arguments as launched. -/
abbrev weightOut : Vec Ideal S4x8192 .f32 := weightTable (m ((c : Thread nD τ).loc main_arg0)) (m ((c : Thread nD τ).loc main_arg1))
  (m ((c : Thread nD τ).loc main_arg2)) (m ((c : Thread nD τ).loc main_arg3)) (m ((c : Thread nD τ).loc main_arg4))

/-- The blocks give lane `j` the scores of its token, those of Proof/Spec.lean. -/
theorem sc_eq (t : Fin cfg0.N) (j : Fin 1024) :
    sc (iblk m c 0 t) (iblk m c 1 t) (iblk m c 2 t) (iblk m c 3 t) j
      = tokScore (m ((c : Thread nD τ).loc main_arg0)) (m ((c : Thread nD τ).loc main_arg1))
          (m ((c : Thread nD τ).loc main_arg2)) (m ((c : Thread nD τ).loc main_arg3)) (tok t j) := by
  funext e
  simp only [sc, tokScore, iblk_0, iblk_1, iblk_2, iblk_3]

/-- And the biased scores. -/
theorem ch_eq (t : Fin cfg0.N) (j : Fin 1024) :
    ch (iblk m c 0 t) (iblk m c 1 t) (iblk m c 2 t) (iblk m c 3 t) (iblk m c 4 t) j
      = tokChoice (m ((c : Thread nD τ).loc main_arg0)) (m ((c : Thread nD τ).loc main_arg1))
          (m ((c : Thread nD τ).loc main_arg2)) (m ((c : Thread nD τ).loc main_arg3)) (m ((c : Thread nD τ).loc main_arg4)) (tok t j) := by
  funext e
  simp only [ch, tokChoice, sc_eq, iblk_4]

/-- The body's first result at an index is the entry of that lane's token in the table. -/
theorem ids_at (t : Fin cfg0.N) (k : Fin 4) (j : Fin 1024) :
    out0_5 (iblk m c 0 t) (iblk m c 1 t) (iblk m c 2 t) (iblk m c 3 t) (iblk m c 4 t) (ix2 k j) = idOut m c (ix2 k (tok t j)) :=
  (out_ids j (iblk m c 0 t) (iblk m c 1 t) (iblk m c 2 t) (iblk m c 3 t) (iblk m c 4 t) k).trans
    (congrArg (fun f => ids f k) (ch_eq m c t j))

/-- And the second. -/
theorem weights_at (t : Fin cfg0.N) (k : Fin 4) (j : Fin 1024) :
    out0_6 (iblk m c 0 t) (iblk m c 1 t) (iblk m c 2 t) (iblk m c 3 t) (iblk m c 4 t) (ix2 k j) = weightOut m c (ix2 k (tok t j)) :=
  (out_wts j (iblk m c 0 t) (iblk m c 1 t) (iblk m c 2 t) (iblk m c 3 t) (iblk m c 4 t) k).trans
    (congrArg₂ (fun f g => wts f g k) (sc_eq m c t j) (ch_eq m c t j))

/-- The body's first result array ends as the table of chosen experts. -/
theorem final_ids : (dats m 0 c).arrAt 5 cfg0.N = idOut m c := by
  refine (dats m 0 c).arrAt_eq_of_covers 5 _ (by decide +kernel) fun t hf y => ?_
  have e : ((cfg0.win 5).blk t).view.emb y = ix2 (y 0) (tok t (y 1)) := by blk_ext [idx_5, tok]
  rw [e]
  blk_simp
  rw [after0_5]
  refine Eq.trans ?_ (ids_at m c t (y 0) (y 1))
  congr 1
  blk_ext

/-- The second ends as the table of their weights. -/
theorem final_weights : (dats m 0 c).arrAt 6 cfg0.N = weightOut m c := by
  refine (dats m 0 c).arrAt_eq_of_covers 6 _ (by decide +kernel) fun t hf y => ?_
  have e : ((cfg0.win 6).blk t).view.emb y = ix2 (y 0) (tok t (y 1)) := by blk_ext [idx_6, tok]
  rw [e]
  blk_simp
  rw [after0_6]
  refine Eq.trans ?_ (weights_at m c t (y 0) (y 1))
  congr 1
  blk_ext

/-- The host's last two steps on a table of experts: transposed, then split into the two batches. -/
def idResult (o : Vec Ideal S4x8192 .i32) : Vec Ideal S2x4096x4 .i32 :=
  shapeCast S2x4096x4 (transpose S8192x4 [1, 0] o transposes_S4x8192_S8192x4_1_0) shapeCasts_S8192x4_S2x4096x4

/-- The same on a table of weights. -/
def weightResult (o : Vec Ideal S4x8192 .f32) : Vec Ideal S2x4096x4 .f32 :=
  shapeCast S2x4096x4 (transpose S8192x4 [1, 0] o transposes_S4x8192_S8192x4_1_0) shapeCasts_S8192x4_S2x4096x4

/-- The first result is the table of chosen experts, transposed and split. -/
theorem tail_ids : Pipeline.afterTail₀ cfgs (dats m) 0 (V0 m) [hostOps1] c main_v6 = idResult (idOut m c) := by
  have e : Pipeline.withArrays (cfgs 0).spec c (V0 m c) (fun w => (dats m 0 c).arrAt w (cfgs 0).N) (Proc.devRef .tc main_v4_0) = idOut m c :=
    (Pipeline.withArrays_arr spec0 (by decide) c (V0 m c) (fun w => (dats m 0 c).arrAt w cfg0.N) 5).trans (final_ids m c)
  unfold Pipeline.afterTail₀
  simp only [List.flatten_cons, List.flatten_nil, List.append_nil]
  after_results_simp
  rw [e]
  rfl

/-- The second is the table of their weights, transposed and split. -/
theorem tail_weights : Pipeline.afterTail₀ cfgs (dats m) 0 (V0 m) [hostOps1] c main_v8 = weightResult (weightOut m c) := by
  have e : Pipeline.withArrays (cfgs 0).spec c (V0 m c) (fun w => (dats m 0 c).arrAt w (cfgs 0).N) (Proc.devRef .tc main_v4_1) = weightOut m c :=
    (Pipeline.withArrays_arr spec0 (by decide) c (V0 m c) (fun w => (dats m 0 c).arrAt w cfg0.N) 6).trans (final_weights m c)
  unfold Pipeline.afterTail₀
  simp only [List.flatten_cons, List.flatten_nil, List.append_nil]
  after_results_simp
  rw [e]
  rfl

/-- Every run ends with both results so, and the arguments unchanged. -/
theorem run : θ_run defs (onTc (τ := τ) (main (F := Ideal))) ⟨m, fun _ => 0, ρ⟩ (fun r => ∀ c : Dev nD,
      r.2.mem ((c.tc : Thread nD τ).loc main_v6) = idResult (idOut m c)
      ∧ r.2.mem ((c.tc : Thread nD τ).loc main_v8) = weightResult (weightOut m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
      ⟨((h.1 c).2 main_v6 (Pipeline.mem_restRefs_of main_v6 (by decide) (by decide))).trans (tail_ids m c),
       ((h.1 c).2 main_v8 (Pipeline.mem_restRefs_of main_v8 (by decide) (by decide))).trans (tail_weights m c), h.2 c⟩)
    (θ_run_and (run_main m ρ) (unchanged m ρ))

end Cert.Proof.K
-- ==== Proof.Whole.lean ====
/- The reference's two results, at an index, are the router of that token's column (Proof/Column.lean). Each lemma
   reads one value of the body at an index. -/
module

public import proofs.«01_k».proof.Defs
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Column

@[expose] public section

set_option maxRecDepth 16384

noncomputable section

namespace Cert.Proof.R

open Idealize.ShloMosaic Cert.ReferenceIdeal Cert.ReferenceIdeal.Gen

/-- The column of token `j` among the 8192 tokens. -/
abbrev col (v : FVec Ideal S32x8192 .f32) (j : Fin 8192) : Fin 32 → EReal := fun e => v (ix2 e j)

/-- The row of expert numbers. -/
abbrev rows : IVec S32x8192 32 := iota .tc S32x8192 32 [0] iota_S32x8192_d0_w32

variable (v s : FVec Ideal S32x8192 .f32) (j : Fin 8192) (e : Fin 32)

/-! The eight group scores. -/

theorem gscore0 (a b c d f) : k0_pay4 (F := Ideal) a b c d f (ix1 j) = gscore (col (k0_pay3 a b c d f) j) 0 := by
  pointwise [k0_pay4]
  rfl

theorem gscore1 (a b c d f) : k0_pay9 (F := Ideal) (k0_pay5 a b c d f) (k0_pay6 a b c d f) (k0_pay7 a b c d f)
    (k0_pay8 a b c d f) (ix1 j) = gscore (col (k0_pay3 a b c d f) j) 1 := by
  pointwise [k0_pay9, k0_pay8, k0_pay7, k0_pay6, k0_pay5]
  rfl

theorem gscore2 : k0_pay10 (F := Ideal) v (ix1 j) = gscore (col v j) 2 := by
  pointwise [k0_pay10]
  rfl

theorem gscore3 : k0_pay11 (F := Ideal) v (ix1 j) = gscore (col v j) 3 := by
  pointwise [k0_pay11]
  rfl

theorem gscore4 : k0_pay17 (F := Ideal) (k0_pay13 v) (k0_pay14 v) (k0_pay15 v) (k0_pay16 v) (ix1 j)
    = gscore (col v j) 4 := by
  pointwise [k0_pay17, k0_pay16, k0_pay15, k0_pay14, k0_pay13, k0_pay12]
  rfl

theorem gscore5 : k0_pay18 (F := Ideal) v (ix1 j) = gscore (col v j) 5 := by
  pointwise [k0_pay18]
  rfl

theorem gscore6 : k0_pay19 (F := Ideal) v (ix1 j) = gscore (col v j) 6 := by
  pointwise [k0_pay19]
  rfl

theorem gscore7 : k0_pay20 (F := Ideal) v (ix1 j) = gscore (col v j) 7 := by
  pointwise [k0_pay20]
  rfl

/-! The eight tests that keep a group, over the eight rows of group scores. -/

section Keep
variable (t : Fin 8 → FVec Ideal S8192 .f32)

/-- The eight group scores of a token. -/
abbrev gs : Fin 8 → EReal := fun g => t g (ix1 j)

theorem keep0 : k0_pay21 (F := Ideal) (t 0) (t 1) (t 2) (t 3) (t 4) (t 5) (t 6) (t 7) (ix1 j)
    = IntOp.cmpi .slt (rank (gs j t) 0) 4#32 := by
  rw [rank_eq]
  pointwise [k0_pay21]
  rfl

theorem keep1 : k0_pay22 (F := Ideal) (t 0) (t 1) (t 2) (t 3) (t 4) (t 5) (t 6) (t 7) (ix1 j)
    = IntOp.cmpi .slt (rank (gs j t) 1) 4#32 := by
  rw [rank_eq]
  pointwise [k0_pay22]
  rfl

theorem keep2 : k0_pay24 (F := Ideal) (t 2) (t 6) (t 7) (k0_pay23 (t 0) (t 1) (t 2) (t 3) (t 4) (t 5)) (ix1 j)
    = IntOp.cmpi .slt (rank (gs j t) 2) 4#32 := by
  rw [rank_eq]
  pointwise [k0_pay24, k0_pay23]
  rfl

theorem keep3 : k0_pay25 (F := Ideal) (t 0) (t 1) (t 2) (t 3) (t 4) (t 5) (t 6) (t 7) (ix1 j)
    = IntOp.cmpi .slt (rank (gs j t) 3) 4#32 := by
  rw [rank_eq]
  pointwise [k0_pay25]
  rfl

theorem keep4 : k0_pay26 (F := Ideal) (t 0) (t 1) (t 2) (t 3) (t 4) (t 5) (t 6) (t 7) (ix1 j)
    = IntOp.cmpi .slt (rank (gs j t) 4) 4#32 := by
  rw [rank_eq]
  pointwise [k0_pay26]
  rfl

theorem keep5 : k0_pay28 (F := Ideal) (t 2) (t 3) (t 4) (t 5) (t 6) (t 7) (k0_pay27 (t 0) (t 1) (t 5)) (ix1 j)
    = IntOp.cmpi .slt (rank (gs j t) 5) 4#32 := by
  rw [rank_eq]
  pointwise [k0_pay28, k0_pay27]
  rfl

theorem keep6 : k0_pay29 (F := Ideal) (t 0) (t 1) (t 2) (t 3) (t 4) (t 5) (t 6) (t 7) (ix1 j)
    = IntOp.cmpi .slt (rank (gs j t) 6) 4#32 := by
  rw [rank_eq]
  pointwise [k0_pay29]
  rfl

/-- The last group's rank, whose test the next value of the body makes. -/
theorem rank7 : IntOp.addi (k0_pay30 (F := Ideal) (t 0) (t 1) (t 2) (t 3) (t 4) (t 5) (t 7) (ix1 j))
    (k0_pay31 (F := Ideal) (t 6) (t 7) (ix1 j)) = rank (gs j t) 7 := by
  rw [rank_eq]
  pointwise [k0_pay31, k0_pay30]
  rfl

/-- The first round's column from the eight tests: an expert stays exactly when its own group's test holds. -/
theorem kept (a0 a1 a2 a3 a4 a5 a6 : IVec S8192 1) (b c : IVec S8192 32) :
    k0_pay32 (F := Ideal) v a0 a1 a2 a3 a4 a5 a6 b c (ix2 e j)
      = Scalar.select (![a0 (ix1 j), a1 (ix1 j), a2 (ix1 j), a3 (ix1 j), a4 (ix1 j), a5 (ix1 j), a6 (ix1 j),
          IntOp.cmpi .slt (IntOp.addi (b (ix1 j)) (c (ix1 j))) 4#32] (group e)) (v (ix2 e j)) neg := by
  have hq : (e : Nat) / 4 < 8 := by omega
  pointwise [k0_pay32]
  rw [show group e = ⟨(e : Nat) / 4, hq⟩ from rfl]
  generalize (e : Nat) / 4 = q at hq
  interval_cases q <;> rfl

/-- The first round's column over the eight rows of group scores. -/
theorem kept_all :
    k0_pay32 (F := Ideal) v
      (k0_pay21 (t 0) (t 1) (t 2) (t 3) (t 4) (t 5) (t 6) (t 7))
      (k0_pay22 (t 0) (t 1) (t 2) (t 3) (t 4) (t 5) (t 6) (t 7))
      (k0_pay24 (t 2) (t 6) (t 7) (k0_pay23 (t 0) (t 1) (t 2) (t 3) (t 4) (t 5)))
      (k0_pay25 (t 0) (t 1) (t 2) (t 3) (t 4) (t 5) (t 6) (t 7))
      (k0_pay26 (t 0) (t 1) (t 2) (t 3) (t 4) (t 5) (t 6) (t 7))
      (k0_pay28 (t 2) (t 3) (t 4) (t 5) (t 6) (t 7) (k0_pay27 (t 0) (t 1) (t 5)))
      (k0_pay29 (t 0) (t 1) (t 2) (t 3) (t 4) (t 5) (t 6) (t 7))
      (k0_pay30 (t 0) (t 1) (t 2) (t 3) (t 4) (t 5) (t 7)) (k0_pay31 (t 6) (t 7)) (ix2 e j)
      = if (rank (gs j t) (group e)).slt 4#32 then v (ix2 e j) else neg := by
  rw [kept, keep0, keep1, keep2, keep3, keep4, keep5, keep6, rank7, ← select_slt]
  generalize group e = g
  fin_cases g <;> rfl

end Keep

/-! One round, on any column; the body repeats these operations four times. -/

/-- The picked expert of each token, as a row. -/
def pickRow : IVec S1x8192 32 :=
  shapeCast S1x8192 (multiReductionI .minsi [0] S8192
    (select (cmpf .oeq v (broadcastTo S32x8192 (shapeCast S1x8192 (multiReduction .maximumf [0] S8192 v 0xFF800000#32
      reduces_S32x8192_S8192 (.inl rfl) rfl) shapeCasts_S8192_S1x8192) broadcasts_S1x8192_S32x8192)) rows
      (broadcast S32x8192 32#32)) 2147483647#32 reduces_S32x8192_S8192 rfl) shapeCasts_S8192_S1x8192

/-- Where the picked experts are. -/
def picked : IVec S32x8192 1 :=
  cmpi .eq rows (broadcastTo S32x8192 (pickRow v) broadcasts_S1x8192_S32x8192)

/-- The tokens' columns with the picked experts struck out. -/
def strikeAll : FVec Ideal S32x8192 .f32 := k0_pay41 (F := Ideal) v (picked v)

/-- The picked scores. -/
def weightRow : FVec Ideal S8192 .f32 :=
  multiReduction .add [0] S8192 (select (picked v) s (broadcast S32x8192 (Scalar.ofBits (F := Ideal) .f32 0x00000000#32)))
    0x00000000#32 reduces_S32x8192_S8192 (.inl rfl) rfl

theorem pick_row : pickRow v (ix2 0 j) = pick (col v j) := by
  pointwise [pickRow]
  rfl

theorem weight_row : weightRow v s (ix1 j) = weight (col s j) (col v j) := by
  have h := pick_row v j
  pointwise [weightRow, picked]
  simp only [h, select_eq]
  rfl

theorem strike_col : col (strikeAll v) j = strike (col v j) := by
  have h := pick_row v j
  funext e
  show strikeAll v (ix2 e j) = _
  pointwise [strikeAll, k0_pay41, picked]
  simp only [h, select_eq]
  rfl

/-! The whole body, from the five arguments. -/

section Whole
variable (x0 : Vec Ideal S8192x2816 .fp8e4m3) (x1 : Vec Ideal S8192 .f32) (x2 : Vec Ideal S2816x32 .fp8e4m3)
  (x3 : Vec Ideal S32 .f32) (x4 : Vec Ideal S32 .f32)

/-- The score of an expert for token `j`. -/
def sc (j : Fin 8192) (e : Fin 32) : EReal :=
  score (fun d => x0 (ix2 j d)) (fun d => x2 (ix2 d e)) (x1 (ix1 j)) (x3 (ix1 e))

/-- The score the router chooses by: with the expert's bias added. -/
def ch (j : Fin 8192) (e : Fin 32) : EReal := sc x0 x1 x2 x3 j e + x4 (ix1 e)

theorem off1 : (![0] : Fin 1 → Nat) = fun _ => 0 := by decide
theorem off2 : (![0, 0] : Fin 2 → Nat) = fun _ => 0 := by decide

theorem ld_w : View.ld x2 r0_0 = x2 := View.ld_unit_zero off2 _ x2
theorem ld_x : View.ld x0 r0_1 = x0 := View.ld_unit_zero off2 _ x0
theorem ld_xs : View.ld x1 r0_2 = x1 := View.ld_unit_zero off1 _ x1
theorem ld_ws : View.ld x3 r0_3 = x3 := View.ld_unit_zero off1 _ x3

theorem scores : col (k0_pay52 (F := Ideal) x0 x1 x2 x3 x4) j = sc x0 x1 x2 x3 j := by
  funext e
  show k0_pay52 (F := Ideal) x0 x1 x2 x3 x4 (ix2 e j) = _
  rw [k0_pay52, ld_w, ld_x, ld_xs, ld_ws]
  pointwise [k0_pay2]
  rfl

theorem choice : col (k0_pay53 (F := Ideal) x0 x1 x2 x3 x4) j = ch x0 x1 x2 x3 x4 j := by
  funext e
  show k0_pay53 (F := Ideal) x0 x1 x2 x3 x4 (ix2 e j) = _
  rw [k0_pay53, ld_w, ld_x, ld_xs, ld_ws, ld_ws]
  pointwise [k0_pay3, k0_pay2]
  rfl

/-- The first round's columns. -/
def first : FVec Ideal S32x8192 .f32 :=
  k0_pay32 (k0_pay53 x0 x1 x2 x3 x4) (k0_pay62 x0 x1 x2 x3 x4) (k0_pay63 x0 x1 x2 x3 x4) (k0_pay64 x0 x1 x2 x3 x4)
    (k0_pay65 x0 x1 x2 x3 x4) (k0_pay66 x0 x1 x2 x3 x4) (k0_pay67 x0 x1 x2 x3 x4) (k0_pay68 x0 x1 x2 x3 x4)
    (k0_pay69 x0 x1 x2 x3 x4) (k0_pay70 x0 x1 x2 x3 x4)

theorem first_col : col (first x0 x1 x2 x3 x4) j = masked (ch x0 x1 x2 x3 x4 j) := by
  funext e
  rw [← choice]
  let t : Fin 8 → FVec Ideal S8192 .f32 := ![k0_pay54 x0 x1 x2 x3 x4, k0_pay55 x0 x1 x2 x3 x4,
    k0_pay56 x0 x1 x2 x3 x4, k0_pay57 x0 x1 x2 x3 x4, k0_pay58 x0 x1 x2 x3 x4, k0_pay59 x0 x1 x2 x3 x4,
    k0_pay60 x0 x1 x2 x3 x4, k0_pay61 x0 x1 x2 x3 x4]
  have hg : gs j t = gscore (col (k0_pay53 (F := Ideal) x0 x1 x2 x3 x4) j) := by
    funext g
    fin_cases g
    · exact gscore0 j _ _ _ _ _
    · exact gscore1 j _ _ _ _ _
    · exact gscore2 _ j
    · exact gscore3 _ j
    · exact gscore4 _ j
    · exact gscore5 _ j
    · exact gscore6 _ j
    · exact gscore7 _ j
  have h := kept_all (k0_pay53 x0 x1 x2 x3 x4) j e t
  rw [hg] at h
  exact h

/-- The ids the reference writes. -/
theorem out_ids (k : Fin 4) : out0_5 (F := Ideal) x0 x1 x2 x3 x4 (ix2 k j) = ids (ch x0 x1 x2 x3 x4 j) k := by
  have hcan : out0_5 (F := Ideal) x0 x1 x2 x3 x4 =
      k0_pay48 (F := Ideal) rows (shapeCast S8192 (pickRow (first x0 x1 x2 x3 x4)) shapeCasts_S1x8192_S8192)
        (strikeAll (first x0 x1 x2 x3 x4)) (pickRow (strikeAll (first x0 x1 x2 x3 x4)))
        (picked (strikeAll (first x0 x1 x2 x3 x4))) :=
    View.canon_unit_zero off2 _ _
  rw [hcan]
  have h0 := pick_row (first x0 x1 x2 x3 x4) j
  have h1 := pick_row (strikeAll (first x0 x1 x2 x3 x4)) j
  have h2 := pick_row (strikeAll (strikeAll (first x0 x1 x2 x3 x4))) j
  have h3 := pick_row (strikeAll (strikeAll (strikeAll (first x0 x1 x2 x3 x4)))) j
  simp only [strike_col, first_col] at h0 h1 h2 h3
  fin_cases k
  · pointwise [k0_pay48]
    exact h0
  · pointwise [k0_pay48]
    exact h1
  · pointwise [k0_pay48]
    exact h2
  · pointwise [k0_pay48]
    exact h3

/-- The weights the reference writes. -/
theorem out_wts (k : Fin 4) : out0_6 (F := Ideal) x0 x1 x2 x3 x4 (ix2 k j)
    = wts (sc x0 x1 x2 x3 j) (ch x0 x1 x2 x3 x4 j) k := by
  let s := k0_pay52 (F := Ideal) x0 x1 x2 x3 x4
  let w0 := weightRow (first x0 x1 x2 x3 x4) s
  let w1 := weightRow (strikeAll (first x0 x1 x2 x3 x4)) s
  let w2 := weightRow (strikeAll (strikeAll (first x0 x1 x2 x3 x4))) s
  let w3 := weightRow (strikeAll (strikeAll (strikeAll (first x0 x1 x2 x3 x4)))) s
  let den := addf (addf (addf w0 w1) w2) w3
  have hcan : out0_6 (F := Ideal) x0 x1 x2 x3 x4 =
      k0_pay1 w2 w3 den (mulf (divf w0 den) (k0_pay51 (F := Ideal))) (divf w1 den) (k0_pay51 (F := Ideal)) :=
    View.canon_unit_zero off2 _ _
  rw [hcan]
  have h0 : w0 (ix1 j) = _ := weight_row (first x0 x1 x2 x3 x4) s j
  have h1 : w1 (ix1 j) = _ := weight_row (strikeAll (first x0 x1 x2 x3 x4)) s j
  have h2 : w2 (ix1 j) = _ := weight_row (strikeAll (strikeAll (first x0 x1 x2 x3 x4))) s j
  have h3 : w3 (ix1 j) = _ := weight_row (strikeAll (strikeAll (strikeAll (first x0 x1 x2 x3 x4)))) s j
  simp only [strike_col, first_col] at h0 h1 h2 h3
  rw [show col s j = _ from scores j x0 x1 x2 x3 x4] at h0 h1 h2 h3
  fin_cases k <;> pointwise [k0_pay1, k0_pay51, den] <;> simp only [h0, h1, h2, h3] <;> rfl

end Whole

end Cert.Proof.R
-- ==== Proof.ReferenceRun.lean ====
/- The reference's run: its two results are the router's tables (Proof/Spec.lean), transposed and reshaped. -/
module

public import proofs.«01_k».proof.Proof.Whole
public import proofs.«01_k».proof.Proof.Spec
public import Idealize.ShloMosaic.Lib.Pipeline.ValueKit
public import Idealize.ShloMosaic.Lib.Quiescent
public import Idealize.ShloMosaic.Lib.StableHlo.ReadAt

@[expose] public section

set_option maxRecDepth 16384

noncomputable section

namespace Cert.Proof.R

open Idealize.ShloMosaic Idealize.ShloMosaic.TcCoe Idealize.SL.Sem Cert.ReferenceIdeal Cert.ReferenceIdeal.Gen
open Idealize.ShloMosaic.Pipeline (Dat)

variable (m : (ℓ : Loc nD τ sig) → Buf (Elt Ideal) ℓ) (ρ : Dev nD → PrngReg) (c : Dev nD)

/-- The first operand of the body is the tokens' codes, batch after batch. -/
theorem V_v0 (j : Fin 8192) (d : Fin 2816) :
    V m c main_v0 (ix2 j d) = m ((c : Thread nD τ).loc main_arg0) (ix3 (batch j) (pos j) d) := by
  dsimp only [V, V0, List.flatten_cons, List.flatten_nil, List.append_nil]
  after_reads_at
  rfl

/-- The second is the tokens' scales, batch after batch. -/
theorem V_v1 (j : Fin 8192) :
    V m c main_v1 (ix1 j) = m ((c : Thread nD τ).loc main_arg1) (ix2 (batch j) (pos j)) := by
  dsimp only [V, V0, List.flatten_cons, List.flatten_nil, List.append_nil]
  after_reads_at
  rfl

/-- Window 0's block starts at the array's. -/
theorem idx_0 : ∀ t : Fin cfg0.N, win0_0.index t = ![0, 0] :=
  (by decide +kernel : ∀ t : Fin grid0.N, _)

/-- Window 1's block starts at the array's. -/
theorem idx_1 : ∀ t : Fin cfg0.N, win0_1.index t = ![0] :=
  (by decide +kernel : ∀ t : Fin grid0.N, _)

/-- Window 2's block starts at the array's. -/
theorem idx_2 : ∀ t : Fin cfg0.N, win0_2.index t = ![0, 0] :=
  (by decide +kernel : ∀ t : Fin grid0.N, _)

/-- Window 3's block starts at the array's. -/
theorem idx_3 : ∀ t : Fin cfg0.N, win0_3.index t = ![0] :=
  (by decide +kernel : ∀ t : Fin grid0.N, _)

/-- Window 4's block starts at the array's. -/
theorem idx_4 : ∀ t : Fin cfg0.N, win0_4.index t = ![0] :=
  (by decide +kernel : ∀ t : Fin grid0.N, _)

/-- Window 5's block starts at the array's. -/
theorem idx_5 : ∀ t : Fin cfg0.N, win0_5.index t = ![0, 0] :=
  (by decide +kernel : ∀ t : Fin grid0.N, _)

/-- Window 6's block starts at the array's. -/
theorem idx_6 : ∀ t : Fin cfg0.N, win0_6.index t = ![0, 0] :=
  (by decide +kernel : ∀ t : Fin grid0.N, _)

/-- The one point's block of window 0, at an index. -/
theorem iblk_0 (t : Fin cfg0.N) (j : Fin 8192) (d : Fin 2816) :
    iblk m c 0 t (ix2 j d) = m ((c : Thread nD τ).loc main_arg0) (ix3 (batch j) (pos j) d) := by
  rw [← V_v0 m c]
  blk_simp [iblk]
  congr 1
  blk_ext [idx_0]

/-- The one point's block of window 1, at an index. -/
theorem iblk_1 (t : Fin cfg0.N) (j : Fin 8192) :
    iblk m c 1 t (ix1 j) = m ((c : Thread nD τ).loc main_arg1) (ix2 (batch j) (pos j)) := by
  rw [← V_v1 m c]
  blk_simp [iblk]
  congr 1
  blk_ext [idx_1]

/-- The one point's block of window 2, at an index. -/
theorem iblk_2 (t : Fin cfg0.N) (d : Fin 2816) (e : Fin 32) :
    iblk m c 2 t (ix2 d e) = m ((c : Thread nD τ).loc main_arg2) (ix2 d e) := by
  rw [← V_main_arg2 m c]
  blk_simp [iblk]
  congr 1
  blk_ext [idx_2]

/-- The one point's block of window 3, at an index. -/
theorem iblk_3 (t : Fin cfg0.N) (e : Fin 32) :
    iblk m c 3 t (ix1 e) = m ((c : Thread nD τ).loc main_arg3) (ix1 e) := by
  rw [← V_main_arg3 m c]
  blk_simp [iblk]
  congr 1
  blk_ext [idx_3]

/-- The one point's block of window 4, at an index. -/
theorem iblk_4 (t : Fin cfg0.N) (e : Fin 32) :
    iblk m c 4 t (ix1 e) = m ((c : Thread nD τ).loc main_arg4) (ix1 e) := by
  rw [← V_main_arg4 m c]
  blk_simp [iblk]
  congr 1
  blk_ext [idx_4]

/-- The table of chosen experts, of the arguments as launched. -/
abbrev idOut : Vec Ideal S4x8192 .i32 := idTable (m ((c : Thread nD τ).loc main_arg0)) (m ((c : Thread nD τ).loc main_arg1))
  (m ((c : Thread nD τ).loc main_arg2)) (m ((c : Thread nD τ).loc main_arg3)) (m ((c : Thread nD τ).loc main_arg4))

/-- The table of their weights, of the arguments as launched. -/
abbrev weightOut : Vec Ideal S4x8192 .f32 := weightTable (m ((c : Thread nD τ).loc main_arg0)) (m ((c : Thread nD τ).loc main_arg1))
  (m ((c : Thread nD τ).loc main_arg2)) (m ((c : Thread nD τ).loc main_arg3)) (m ((c : Thread nD τ).loc main_arg4))

/-- The blocks give token `j` the scores of Proof/Spec.lean. -/
theorem sc_eq (t : Fin cfg0.N) (j : Fin 8192) :
    sc (iblk m c 0 t) (iblk m c 1 t) (iblk m c 2 t) (iblk m c 3 t) j
      = tokScore (m ((c : Thread nD τ).loc main_arg0)) (m ((c : Thread nD τ).loc main_arg1))
          (m ((c : Thread nD τ).loc main_arg2)) (m ((c : Thread nD τ).loc main_arg3)) j := by
  funext e
  simp only [sc, tokScore, iblk_0, iblk_1, iblk_2, iblk_3]

/-- And the biased scores. -/
theorem ch_eq (t : Fin cfg0.N) (j : Fin 8192) :
    ch (iblk m c 0 t) (iblk m c 1 t) (iblk m c 2 t) (iblk m c 3 t) (iblk m c 4 t) j
      = tokChoice (m ((c : Thread nD τ).loc main_arg0)) (m ((c : Thread nD τ).loc main_arg1))
          (m ((c : Thread nD τ).loc main_arg2)) (m ((c : Thread nD τ).loc main_arg3)) (m ((c : Thread nD τ).loc main_arg4)) j := by
  funext e
  simp only [ch, tokChoice, sc_eq, iblk_4]

/-- The body's first result at an index is the table's entry. -/
theorem ids_at (t : Fin cfg0.N) (k : Fin 4) (j : Fin 8192) :
    out0_5 (iblk m c 0 t) (iblk m c 1 t) (iblk m c 2 t) (iblk m c 3 t) (iblk m c 4 t) (ix2 k j) = idOut m c (ix2 k j) :=
  (out_ids j (iblk m c 0 t) (iblk m c 1 t) (iblk m c 2 t) (iblk m c 3 t) (iblk m c 4 t) k).trans
    (congrArg (fun f => ids f k) (ch_eq m c t j))

/-- And the second. -/
theorem weights_at (t : Fin cfg0.N) (k : Fin 4) (j : Fin 8192) :
    out0_6 (iblk m c 0 t) (iblk m c 1 t) (iblk m c 2 t) (iblk m c 3 t) (iblk m c 4 t) (ix2 k j) = weightOut m c (ix2 k j) :=
  (out_wts j (iblk m c 0 t) (iblk m c 1 t) (iblk m c 2 t) (iblk m c 3 t) (iblk m c 4 t) k).trans
    (congrArg₂ (fun f g => wts f g k) (sc_eq m c t j) (ch_eq m c t j))

/-- The body's first result array ends as the table of chosen experts. -/
theorem final_ids : (dats m 0 c).arrAt 5 cfg0.N = idOut m c := by
  refine (dats m 0 c).arrAt_eq_of_covers 5 _ (by decide +kernel) fun t hf y => ?_
  have e : ((cfg0.win 5).blk t).view.emb y = ix2 (y 0) (y 1) := by blk_ext [idx_5]
  rw [e]
  blk_simp
  rw [after0_5]
  refine Eq.trans ?_ (ids_at m c t (y 0) (y 1))
  congr 1
  blk_ext

/-- The second ends as the table of their weights. -/
theorem final_weights : (dats m 0 c).arrAt 6 cfg0.N = weightOut m c := by
  refine (dats m 0 c).arrAt_eq_of_covers 6 _ (by decide +kernel) fun t hf y => ?_
  have e : ((cfg0.win 6).blk t).view.emb y = ix2 (y 0) (y 1) := by blk_ext [idx_6]
  rw [e]
  blk_simp
  rw [after0_6]
  refine Eq.trans ?_ (weights_at m c t (y 0) (y 1))
  congr 1
  blk_ext

/-- The host's last two steps on a table of experts: transposed, then split into the two batches. -/
def idResult (o : Vec Ideal S4x8192 .i32) : Vec Ideal S2x4096x4 .i32 :=
  shapeCast S2x4096x4 (transpose S8192x4 [1, 0] o transposes_S4x8192_S8192x4_1_0) shapeCasts_S8192x4_S2x4096x4

/-- The same on a table of weights. -/
def weightResult (o : Vec Ideal S4x8192 .f32) : Vec Ideal S2x4096x4 .f32 :=
  shapeCast S2x4096x4 (transpose S8192x4 [1, 0] o transposes_S4x8192_S8192x4_1_0) shapeCasts_S8192x4_S2x4096x4

/-- The first result is the table of chosen experts, transposed and split. -/
theorem tail_ids : Pipeline.afterTail₀ cfgs (dats m) 0 (V0 m) [hostOps1] c main_v4 = idResult (idOut m c) := by
  have e : Pipeline.withArrays (cfgs 0).spec c (V0 m c) (fun w => (dats m 0 c).arrAt w (cfgs 0).N) (Proc.devRef .tc main_v2_0) = idOut m c :=
    (Pipeline.withArrays_arr spec0 (by decide) c (V0 m c) (fun w => (dats m 0 c).arrAt w cfg0.N) 5).trans (final_ids m c)
  unfold Pipeline.afterTail₀
  simp only [List.flatten_cons, List.flatten_nil, List.append_nil]
  after_results_simp
  rw [e]
  rfl

/-- The second is the table of their weights, transposed and split. -/
theorem tail_weights : Pipeline.afterTail₀ cfgs (dats m) 0 (V0 m) [hostOps1] c main_v6 = weightResult (weightOut m c) := by
  have e : Pipeline.withArrays (cfgs 0).spec c (V0 m c) (fun w => (dats m 0 c).arrAt w (cfgs 0).N) (Proc.devRef .tc main_v2_1) = weightOut m c :=
    (Pipeline.withArrays_arr spec0 (by decide) c (V0 m c) (fun w => (dats m 0 c).arrAt w cfg0.N) 6).trans (final_weights m c)
  unfold Pipeline.afterTail₀
  simp only [List.flatten_cons, List.flatten_nil, List.append_nil]
  after_results_simp
  rw [e]
  rfl

/-- Every run ends with both results so, and the arguments unchanged. -/
theorem run : θ_run defs (onTc (τ := τ) (main (F := Ideal))) ⟨m, fun _ => 0, ρ⟩ (fun r => ∀ c : Dev nD,
      r.2.mem ((c.tc : Thread nD τ).loc main_v4) = idResult (idOut m c)
      ∧ r.2.mem ((c.tc : Thread nD τ).loc main_v6) = weightResult (weightOut m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
      ⟨((h.1 c).2 main_v4 (Pipeline.mem_restRefs_of main_v4 (by decide) (by decide))).trans (tail_ids m c),
       ((h.1 c).2 main_v6 (Pipeline.mem_restRefs_of main_v6 (by decide) (by decide))).trans (tail_weights m c), h.2 c⟩)
    (θ_run_and (run_main m ρ) (unchanged m ρ))

end Cert.Proof.R
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.KernelRun
public import proofs.«01_k».proof.Proof.ReferenceRun
public import Idealize.ShloMosaic.Adequacy
public import Idealize.ShloMosaic.Init

@[expose] public section

noncomputable section

namespace Cert.Proof

open Idealize.ShloMosaic Idealize.SL.Sem Cert.Kernel

/-- On equal arguments the idealized kernel and the idealized reference end with equal results, experts and weights, and
    leave the arguments unchanged. -/
theorem algebraic : Cert.algebraic_KernelIdeal_ReferenceIdeal := by
  intro m g m' g' _ h
  refine ⟨fun c => K.idResult (K.idOut m c), fun c => K.weightResult (K.weightOut m c), K.run m g, ?_⟩
  refine (θ_run Cert.ReferenceIdeal.defs _ _).mono (fun r hr c => ?_) (R.run m' g')
  obtain ⟨h0, h1, h2, h3, h4⟩ := h c
  have ei : R.idOut m' c = K.idOut m c := by
    unfold R.idOut K.idOut
    rw [h0, h1, h2, h3, h4]
  have ew : R.weightOut m' c = K.weightOut m c := by
    unfold R.weightOut K.weightOut
    rw [h0, h1, h2, h3, h4]
  obtain ⟨r0, r1, rest⟩ := hr c
  exact ⟨r0.trans (congrArg R.idResult ei), r1.trans (congrArg R.weightResult ew), rest⟩

/-- All five claims. -/
theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ,
  fun m ρ _ => Cert.ReferenceIdeal.Gen.frame m ρ, trivial, algebraic⟩

end Cert.Proof

end
